-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x2048x512 : Shape := ⟨3, ![16, 2048, 512]⟩
abbrev S512x1 : Shape := ⟨2, ![512, 1]⟩
abbrev S1 : Shape := ⟨1, ![1]⟩
abbrev S512x512 : Shape := ⟨2, ![512, 512]⟩
abbrev S512 : Shape := ⟨1, ![512]⟩
abbrev S_ : Shape := ⟨0, ![]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  bcast_S_S1 : S_.BroadcastsInDim S1 (![] : Fin 0 → Fin S1.rank)
  reducesTo_S1_S_d0 : S1.ReducesTo [0] S_
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S16x2048x512 .f32) (main_arg1 : FVec F S512x1 .f32) (main_arg2 : FVec F S1 .f32) (main_arg3 : FVec F S512x512 .f32) (main_arg4 : FVec F S512 .f32) : IVec S_ 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_c : IVec S_ 1 := constantI S_ 1 1#1
  let main_v3 : IVec S_ 1 := (fun x v => Host.reduce IntOp.andi x v reducesTo_S16x2048x512_S_d0_1_2 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S16x2048x512 : Shape := ⟨3, ![16, 2048, 512]⟩
abbrev S512x1 : Shape := ⟨2, ![512, 1]⟩
abbrev S1 : Shape := ⟨1, ![1]⟩
abbrev S512x512 : Shape := ⟨2, ![512, 512]⟩
abbrev S512 : Shape := ⟨1, ![512]⟩
abbrev S32768x512 : Shape := ⟨2, ![32768, 512]⟩
abbrev S1x512 : Shape := ⟨2, ![1, 512]⟩
abbrev S1x1 : Shape := ⟨2, ![1, 1]⟩
abbrev S16x1x512 : Shape := ⟨3, ![16, 1, 512]⟩
abbrev S4096x512 : Shape := ⟨2, ![4096, 512]⟩
abbrev S2x1x512 : Shape := ⟨3, ![2, 1, 512]⟩
abbrev S1x4096 : Shape := ⟨2, ![1, 4096]⟩
abbrev S1x2048 : Shape := ⟨2, ![1, 2048]⟩
abbrev S1x1x2048 : Shape := ⟨3, ![1, 1, 2048]⟩
abbrev S1x1x1 : Shape := ⟨3, ![1, 1, 1]⟩
abbrev S2x4096 : Shape := ⟨2, ![2, 4096]⟩
abbrev S2x512 : Shape := ⟨2, ![2, 512]⟩
abbrev S1x1x512 : Shape := ⟨3, ![1, 1, 512]⟩
abbrev S16x512 : Shape := ⟨2, ![16, 512]⟩

abbrev nBuf : Space → Nat
  | .hbm => 11
  | .vmem => 8
  | .smem => 0
  | _ => 0

abbrev bufTy : (tb : Table) → Fin (tcTables nBuf tb) → BufTy
  | .hbm, ⟨0, _⟩ => ⟨S16x2048x512, .f32⟩
  | .hbm, ⟨1, _⟩ => ⟨S512x1, .f32⟩
  | .hbm, ⟨2, _⟩ => ⟨S1, .f32⟩
  | .hbm, ⟨3, _⟩ => ⟨S512x512, .f32⟩
  | .hbm, ⟨4, _⟩ => ⟨S512, .f32⟩
  | .hbm, ⟨5, _⟩ => ⟨S32768x512, .f32⟩
  | .hbm, ⟨6, _⟩ => ⟨S1x512, .f32⟩
  | .hbm, ⟨7, _⟩ => ⟨S1x1, .f32⟩
  | .hbm, ⟨8, _⟩ => ⟨S1x512, .f32⟩
  | .hbm, ⟨9, _⟩ => ⟨S16x1x512, .f32⟩
  | .hbm, ⟨10, _⟩ => ⟨S16x512, .f32⟩
  | .local _ .vmem, ⟨0, _⟩ => ⟨S4096x512, .f32⟩
  | .local _ .vmem, ⟨1, _⟩ => ⟨S4096x512, .f32⟩
  | .local _ .vmem, ⟨2, _⟩ => ⟨S1x512, .f32⟩
  | .local _ .vmem, ⟨3, _⟩ => ⟨S1x1, .f32⟩
  | .local _ .vmem, ⟨4, _⟩ => ⟨S512x512, .f32⟩
  | .local _ .vmem, ⟨5, _⟩ => ⟨S1x512, .f32⟩
  | .local _ .vmem, ⟨6, _⟩ => ⟨S2x1x512, .f32⟩
  | .local _ .vmem, ⟨7, _⟩ => ⟨S2x1x512, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16x2048x512 : Shape := ⟨3, ![16, 2048, 512]⟩
abbrev S512x1 : Shape := ⟨2, ![512, 1]⟩
abbrev S1 : Shape := ⟨1, ![1]⟩
abbrev S512x512 : Shape := ⟨2, ![512, 512]⟩
abbrev S512 : Shape := ⟨1, ![512]⟩
abbrev S32768x512 : Shape := ⟨2, ![32768, 512]⟩
abbrev S16 : Shape := ⟨1, ![16]⟩
abbrev S16x2048 : Shape := ⟨2, ![16, 2048]⟩
abbrev S32768 : Shape := ⟨1, ![32768]⟩
abbrev S32768x1 : Shape := ⟨2, ![32768, 1]⟩
abbrev S1x1 : Shape := ⟨2, ![1, 1]⟩
abbrev S1x512 : Shape := ⟨2, ![1, 512]⟩
abbrev S16x2048x1 : Shape := ⟨3, ![16, 2048, 1]⟩
abbrev S_ : Shape := ⟨0, ![]⟩
abbrev S16x1 : Shape := ⟨2, ![16, 1]⟩
abbrev S16x512 : Shape := ⟨2, ![16, 512]⟩

abbrev nBuf : Space → Nat
  | .hbm => 54
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S512x1, .f32⟩
  | .hbm, ⟨2, _⟩ => ⟨S1, .f32⟩
  | .hbm, ⟨3, _⟩ => ⟨S512x512, .f32⟩
  | .hbm, ⟨4, _⟩ => ⟨S512, .f32⟩
  | .hbm, ⟨5, _⟩ => ⟨S32768x512, .f32⟩
  | .hbm, ⟨6, _⟩ => ⟨S16, .i32⟩
  | .hbm, ⟨7, _⟩ => ⟨S16x2048, .i32⟩
  | .hbm, ⟨8, _⟩ => ⟨S32768, .i32⟩
  | .hbm, ⟨9, _⟩ => ⟨S32768x1, .f32⟩
  | .hbm, ⟨10, _⟩ => ⟨S1x1, .f32⟩
  | .hbm, ⟨11, _⟩ => ⟨S32768x1, .f32⟩
  | .hbm, ⟨12, _⟩ => ⟨S32768x1, .f32⟩
  | .hbm, ⟨13, _⟩ => ⟨S32768x512, .f32⟩
  | .hbm, ⟨14, _⟩ => ⟨S1x512, .f32⟩
  | .hbm, ⟨15, _⟩ => ⟨S32768x512, .f32⟩
  | .hbm, ⟨16, _⟩ => ⟨S32768x512, .f32⟩
  | .hbm, ⟨17, _⟩ => ⟨S16x2048x1, .f32⟩
  | .hbm, ⟨18, _⟩ => ⟨S_, .f32⟩
  | .hbm, ⟨19, _⟩ => ⟨S16x1, .f32⟩
  | .hbm, ⟨20, _⟩ => ⟨S_, .i32⟩
  | .hbm, ⟨21, _⟩ => ⟨S32768, .i32⟩
  | .hbm, ⟨22, _⟩ => ⟨S32768, .i1⟩
  | .hbm, ⟨23, _⟩ => ⟨S_, .i32⟩
  | .hbm, ⟨24, _⟩ => ⟨S32768, .i32⟩
  | .hbm, ⟨25, _⟩ => ⟨S32768, .i32⟩
  | .hbm, ⟨26, _⟩ => ⟨S32768, .i32⟩
  | .hbm, ⟨27, _⟩ => ⟨S32768x1, .i32⟩
  | .hbm, ⟨28, _⟩ => ⟨S32768x1, .f32⟩
  | .hbm, ⟨29, _⟩ => ⟨S32768x1, .f32⟩
  | .hbm, ⟨30, _⟩ => ⟨S32768x1, .f32⟩
  | .hbm, ⟨31, _⟩ => ⟨S_, .f32⟩
  | .hbm, ⟨32, _⟩ => ⟨S16x1, .f32⟩
  | .hbm, ⟨33, _⟩ => ⟨S32768x1, .i32⟩
  | .hbm, ⟨34, _⟩ => ⟨S16x1, .f32⟩
  | .hbm, ⟨35, _⟩ => ⟨S_, .i32⟩
  | .hbm, ⟨36, _⟩ => ⟨S32768, .i32⟩
  | .hbm, ⟨37, _⟩ => ⟨S32768, .i1⟩
  | .hbm, ⟨38, _⟩ => ⟨S_, .i32⟩
  | .hbm, ⟨39, _⟩ => ⟨S32768, .i32⟩
  | .hbm, ⟨40, _⟩ => ⟨S32768, .i32⟩
  | .hbm, ⟨41, _⟩ => ⟨S32768, .i32⟩
  | .hbm, ⟨42, _⟩ => ⟨S32768x1, .i32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S32768x1, .f32⟩
  | .hbm, ⟨48, _⟩ => ⟨S32768x512, .f32⟩
  | .hbm, ⟨49, _⟩ => ⟨S32768x512, .f32⟩
  | .hbm, ⟨50, _⟩ => ⟨S_, .f32⟩
  | .hbm, ⟨51, _⟩ => ⟨S16x512, .f32⟩
  | .hbm, ⟨52, _⟩ => ⟨S32768x1, .i32⟩
  | .hbm, ⟨53, _⟩ => ⟨S16x512, .f32⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_2 : Ref sig .tc := ⟨.hbm, 35, rfl⟩
abbrev main_v26 : Ref sig .tc := ⟨.hbm, 36, rfl⟩
abbrev main_v27 : Ref sig .tc := ⟨.hbm, 37, rfl⟩
abbrev main_c_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Proof.Finite.lean ====
/-
  What the precondition `finite` says of the arguments: every entry of x, bg and Wn is a real number. The gate's
  matrix Wg and the bias bn are left free. First the side conditions the precondition's own operations take.
-/
module

public import proofs.«01_k».proof.Defs
public import Idealize.ShloMosaic.Lib.ReduceAll
public import Idealize.ShloMosaic.Lib.ValueIdx
public import Idealize.ShloMosaic.PureOps.Ideal.Laws

@[expose] public section

noncomputable section

namespace Cert.Proof.Finite

open Idealize.ShloMosaic

/-- The shapes the precondition names fit the operations it applies to them. -/
theorem facts : Cert.Pre_finite.Facts where
  bcast_S_S16x2048x512 := by decide
  reducesTo_S16x2048x512_S_d0_1_2 := by decide
  h_S_ := by decide
  bcast_S_S1 := by decide
  reducesTo_S1_S_d0 := by decide
  bcast_S_S512x512 := by decide
  reducesTo_S512x512_S_d0_1 := by decide

/-- The single-precision word of +∞ denotes `⊤`. -/
theorem ofBits_inf : Ideal.ofBits .f32 0x7F800000#32 = ⊤ := by
  simp [Ideal.ofBits, Ideal.ieee]

/-- An extended real whose absolute value compares below +∞ is a real number. -/
theorem real_of_abs_lt (a : EReal) (h : Ideal.cmp .olt (max a (-a)) ⊤ = 1#1) : ∃ r : ℝ, a = (r : EReal) := by
  have h' : max a (-a) < ⊤ := by
    by_contra hn
    simp [Ideal.cmp, hn] at h
  induction a with
  | bot => simp at h'
  | coe r => exact ⟨r, rfl⟩
  | top => simp at h'

/-- Where `jnp.all(jnp.abs(v) < jnp.inf)` holds of an array, each entry of the array is a real number. -/
theorem real_of_all {s : Shape} {axes : List (Fin s.rank)} (v : FVec Ideal s .f32)
    (hb : Cert.Pre_finite.S_.BroadcastsInDim s (![] : Fin 0 → Fin s.rank)) (h : s.ReducesTo axes Cert.Pre_finite.S_)
    (hu : 0 < Cert.Pre_finite.S_.numel) (j : Cert.Pre_finite.S_.Idx)
    (e : Host.reduce IntOp.andi
      (cmpf .olt (Host.absf v) (broadcastInDim s ![] hb (constant Cert.Pre_finite.S_ .f32 0x7F800000#32)))
      (constantI Cert.Pre_finite.S_ 1 1#1) h hu j = 1#1) (i : s.Idx) : ∃ r : ℝ, v i = (r : EReal) := by
  haveI : Subsingleton Cert.Pre_finite.S_.Idx := ⟨fun a b => funext fun q => q.elim0⟩
  have q := Host.reduce_andi_all _ _ h hu j e i
  refine real_of_abs_lt (v i) ?_
  have q' : Ideal.cmp .olt (max (v i) (-(v i))) (Ideal.ofBits .f32 0x7F800000#32) = 1#1 := q
  rwa [ofBits_inf] at q'

/-- The precondition, read: all entries of x, bg and Wn are real numbers. -/
theorem real_args [Cert.Pre_finite.Facts] (x : FVec Ideal Cert.Pre_finite.S16x2048x512 .f32)
    (wg : FVec Ideal Cert.Pre_finite.S512x1 .f32) (bg : FVec Ideal Cert.Pre_finite.S1 .f32)
    (wn : FVec Ideal Cert.Pre_finite.S512x512 .f32) (bn : FVec Ideal Cert.Pre_finite.S512 .f32)
    (h : Cert.Pre_finite.fn (F := Ideal) x wg bg wn bn = fun _ => 1#1) :
    (∀ i, ∃ r : ℝ, x i = (r : EReal)) ∧ (∀ i, ∃ r : ℝ, bg i = (r : EReal))
      ∧ (∀ i, ∃ r : ℝ, wn i = (r : EReal)) := by
  have e := congrFun h ValueIdx.ix0
  unfold Cert.Pre_finite.fn at e
  obtain ⟨e, e3⟩ := IntOp.andi_eq_one.1 e
  obtain ⟨e1, e2⟩ := IntOp.andi_eq_one.1 e
  exact ⟨real_of_all x _ _ _ _ e1, real_of_all bg _ _ _ _ e2, real_of_all wn _ _ _ _ e3⟩

end Cert.Proof.Finite

end
-- ==== Proof.Pool.lean ====
module

public import Idealize.ShloMosaic.Lib.Pointwise

/-!
# The equation behind the kernel

One graph has 2048 nodes. A node's attention weight is the exponential of its gate less the largest gate of
the graph. The kernel adds the weighted rows up first and multiplies the one pooled row by the weight matrix;
the reference multiplies every row by the weight matrix and adds the weighted results up. This file states the
two as functions on the extended reals, and proves them equal when the rows and the matrix are real. The
reference's gates may be shifted by one real number (the gate's bias, which the kernel leaves out). The gates
themselves and the bias of the projection may be any extended reals.
-/

@[expose] public section

noncomputable section

namespace Cert.Proof.Pool

open Idealize.ShloMosaic

/-- The weight of node `n`: the exponential of its gate less the largest gate. -/
def weight (gate : Fin 2048 → EReal) (n : Fin 2048) : EReal :=
  Ideal.exp (gate n - Finset.univ.fold max ⊥ gate)

/-- The sum of the weights. -/
def total (gate : Fin 2048 → EReal) : EReal := ∑ n, weight gate n

/-- The added constant of the denominator. -/
def eps : EReal := Ideal.ofBits .f32 619091349#32

/-- Pool the rows, project the pooled row, then scale by the reciprocal of the denominator. -/
def poolThenProject (gate : Fin 2048 → EReal) (X : Fin 2048 → Fin 512 → EReal) (w : Fin 512 → EReal)
    (b : EReal) : EReal :=
  (∑ j, (∑ n, weight gate n * X n j) * w j) * Ideal.div 1 (total gate + eps)
    + b * (total gate * Ideal.div 1 (total gate + eps))

/-- Project every row, then add up the rows with their normalised weights. -/
def projectThenPool (gate : Fin 2048 → EReal) (X : Fin 2048 → Fin 512 → EReal) (w : Fin 512 → EReal)
    (b : EReal) : EReal :=
  ∑ n, Ideal.div (weight gate n) (total gate + eps) * ((∑ k, X n k * w k) + b)

/-- The constant of the denominator is a positive real. -/
theorem eps_pos : ∃ e : ℝ, 0 < e ∧ eps = (e : EReal) := by
  refine ⟨_, ?_, by simp [eps, Ideal.ofBits, Ideal.ieee]; rfl⟩
  positivity

/-- The word of minus infinity is the least extended real. -/
theorem ofBits_neg_inf : Ideal.ofBits .f32 4286578688#32 = ⊥ := by
  simp [Ideal.ofBits, Ideal.ieee]

/-- Adding a real number to every gate adds it to the largest gate. -/
theorem fold_max_shift (g : Fin 2048 → EReal) (c : ℝ) :
    Finset.univ.fold max ⊥ (fun n => g n + (c : EReal)) = Finset.univ.fold max ⊥ g + (c : EReal) := by
  have h := Finset.fold_hom (op := max) (op' := max) (s := Finset.univ) (b := (⊥ : EReal)) (f := g)
    (m := fun a : EReal => a + (c : EReal)) (fun a b => (Monotone.map_max (fun p q h => add_le_add_left h _)))
  simpa only [EReal.bot_add] using h

/-- A real number added to both sides of a difference cancels, also where the two are infinite. -/
theorem sub_shift (a M : EReal) (c : ℝ) : (a + (c : EReal)) - (M + (c : EReal)) = a - M := by
  induction a <;> induction M <;> simp [← EReal.coe_add, ← EReal.coe_sub]

/-- A shift of all gates by a real number leaves the weights as they are. -/
theorem weight_shift (g : Fin 2048 → EReal) (c : ℝ) (n : Fin 2048) :
    weight (fun n => g n + (c : EReal)) n = weight g n := by
  rw [weight, weight, fold_max_shift, sub_shift]

/-- The exponential of a number less one at least as large is a real number, and not negative. -/
theorem exp_sub_real (a M : EReal) (h : a ≤ M) : ∃ r : ℝ, 0 ≤ r ∧ Ideal.exp (a - M) = (r : EReal) := by
  have z : ∃ r : ℝ, 0 ≤ r ∧ Ideal.exp ⊥ = (r : EReal) := ⟨0, le_rfl, by simp⟩
  induction a with
  | bot => simpa only [EReal.bot_sub] using z
  | coe a =>
    induction M with
    | bot => simp at h
    | coe M => exact ⟨Real.exp (a - M), (Real.exp_pos _).le, by rw [← EReal.coe_sub, Ideal.exp_coe]⟩
    | top => simpa only [EReal.sub_top] using z
  | top =>
    rw [top_le_iff.1 h]
    simpa only [EReal.sub_top] using z

/-- The weights are real numbers, and none is negative, whatever the gates are: infinite gates, too. -/
theorem weight_real (g : Fin 2048 → EReal) :
    ∃ a : Fin 2048 → ℝ, (∀ n, 0 ≤ a n) ∧ ∀ n, weight g n = (a n : EReal) := by
  have h : ∀ n, ∃ r : ℝ, 0 ≤ r ∧ weight g n = (r : EReal) := fun n =>
    exp_sub_real _ _ (Finset.le_fold_max _ |>.2 (Or.inr ⟨n, Finset.mem_univ _, le_rfl⟩))
  choose a ha hw using h
  exact ⟨a, ha, hw⟩

/-- A finite sum of reals, taken among the extended reals, is the sum among the reals. -/
theorem coe_sum {ι : Type} (s : Finset ι) (f : ι → ℝ) :
    ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- Weights that are not negative, multiplied by plus infinity and added up, give their sum times plus infinity. -/
theorem sum_mul_top (p : Fin 2048 → ℝ) (hp : ∀ n, 0 ≤ p n) :
    ∑ n, (p n : EReal) * ⊤ = ((∑ n, p n : ℝ) : EReal) * ⊤ := by
  have hn : ∀ n, 0 ≤ (p n : EReal) * ⊤ := fun n => mul_nonneg (EReal.coe_nonneg.2 (hp n)) le_top
  rcases (Finset.sum_nonneg fun n _ => hp n).eq_or_lt with h | h
  · have z : ∀ n, p n = 0 := fun n =>
      (Finset.sum_eq_zero_iff_of_nonneg fun n _ => hp n).1 h.symm n (Finset.mem_univ n)
    simp [z]
  · obtain ⟨k, -, hk⟩ := Finset.exists_lt_of_sum_lt (s := Finset.univ) (f := fun _ => (0 : ℝ)) (g := p) (by simpa using h)
    rw [EReal.coe_mul_top_of_pos h]
    refine top_le_iff.1 ((EReal.coe_mul_top_of_pos hk).symm.le.trans ?_)
    exact Finset.single_le_sum (fun n _ => hn n) (Finset.mem_univ k)

/-- The same with minus infinity. -/
theorem sum_mul_bot (p : Fin 2048 → ℝ) (hp : ∀ n, 0 ≤ p n) :
    ∑ n, (p n : EReal) * ⊥ = ((∑ n, p n : ℝ) : EReal) * ⊥ := by
  rcases (Finset.sum_nonneg fun n _ => hp n).eq_or_lt with h | h
  · have z : ∀ n, p n = 0 := fun n =>
      (Finset.sum_eq_zero_iff_of_nonneg fun n _ => hp n).1 h.symm n (Finset.mem_univ n)
    simp [z]
  · obtain ⟨k, -, hk⟩ := Finset.exists_lt_of_sum_lt (s := Finset.univ) (f := fun _ => (0 : ℝ)) (g := p) (by simpa using h)
    rw [EReal.coe_mul_bot_of_pos h, ← Finset.add_sum_erase _ _ (Finset.mem_univ k),
      EReal.coe_mul_bot_of_pos hk, EReal.bot_add]

/-- A real number added to an infinite one disappears. -/
theorem coe_mul_coe_add (p s : ℝ) (t : EReal) (ht : t = ⊤ ∨ t = ⊥) :
    (p : EReal) * ((s : EReal) + t) = (p : EReal) * t := by
  rcases ht with rfl | rfl <;> simp

/-- The equation among the reals: a weighted sum of projected rows is the projection of the weighted sum. -/
theorem real_equation (a : Fin 2048 → ℝ) (x : Fin 2048 → Fin 512 → ℝ) (w : Fin 512 → ℝ) (b q : ℝ) :
    (∑ j, (∑ n, a n * x n j) * w j) * q + b * ((∑ n, a n) * q)
      = ∑ n, a n * q * ((∑ k, x n k * w k) + b) := by
  simp only [mul_add, Finset.sum_add_distrib]
  congr 1
  · simp only [Finset.sum_mul, Finset.mul_sum]
    rw [Finset.sum_comm]
    refine Finset.sum_congr rfl fun n _ => Finset.sum_congr rfl fun k _ => ?_
    ring
  · simp only [Finset.sum_mul, Finset.mul_sum]
    refine Finset.sum_congr rfl fun n _ => ?_
    ring

/-- The two ways of computing agree on real rows `x` and a real matrix column `w`, whatever the gates `g` are,
    whatever real number `c` the second way's gates carry in addition, and whatever the bias `b` is. -/
theorem poolThenProject_eq (g : Fin 2048 → EReal) (c : ℝ) (x : Fin 2048 → Fin 512 → ℝ) (w : Fin 512 → ℝ)
    (b : EReal) :
    poolThenProject g (fun n k => (x n k : EReal)) (fun k => (w k : EReal)) b
      = projectThenPool (fun n => g n + (c : EReal)) (fun n k => (x n k : EReal)) (fun k => (w k : EReal)) b := by
  obtain ⟨a, ha, hw⟩ := weight_real g
  obtain ⟨e, he, hee⟩ := eps_pos
  have hS : 0 ≤ ∑ n, a n := Finset.sum_nonneg fun n _ => ha n
  have hD : 0 < (∑ n, a n) + e := add_pos_of_nonneg_of_pos hS he
  have hq : 0 < 1 / ((∑ n, a n) + e) := one_div_pos.2 hD
  unfold poolThenProject projectThenPool total
  simp only [weight_shift, hw, hee, coe_sum, ← EReal.coe_add, ← EReal.coe_mul, Ideal.div_coe hD.ne', one_mul]
  generalize 1 / ((∑ n, a n) + e) = q at hq
  have hp : ∀ n, 0 ≤ a n * q := fun n => mul_nonneg (ha n) hq.le
  have hinf : ∀ t : EReal, t = ⊤ ∨ t = ⊥ → ∑ n, ((a n * q : ℝ) : EReal) * t = ((∑ n, a n * q : ℝ) : EReal) * t →
      ((((∑ j, (∑ n, a n * x n j) * w j) * q : ℝ) : EReal) + t * (((∑ n, a n) * q : ℝ) : EReal))
        = ∑ n, ((a n * q : ℝ) : EReal) * (((∑ k, x n k * w k : ℝ) : EReal) + t) := by
    intro t ht h
    simp only [coe_mul_coe_add _ _ t ht, h]
    rw [← Finset.sum_mul, mul_comm t]
    rcases hS.eq_or_lt with h0 | h0
    · have z : ∀ n, a n = 0 := fun n =>
        (Finset.sum_eq_zero_iff_of_nonneg fun n _ => ha n).1 h0.symm n (Finset.mem_univ n)
      simp [z]
    · rcases ht with rfl | rfl
      · rw [EReal.coe_mul_top_of_pos (mul_pos h0 hq), EReal.coe_add_top]
      · rw [EReal.coe_mul_bot_of_pos (mul_pos h0 hq), EReal.add_bot]
  induction b using EReal.rec with
  | coe b =>
    simp only [coe_sum, ← EReal.coe_add, ← EReal.coe_mul]
    rw [real_equation]
  | top => exact hinf ⊤ (Or.inl rfl) (sum_mul_top _ hp)
  | bot => exact hinf ⊥ (Or.inr rfl) (sum_mul_bot _ hp)

end Cert.Proof.Pool

end
-- ==== Proof.Block.lean ====
module

public import proofs.«01_k».proof.Proof.Gen.KernelIdeal.Frame
public import proofs.«01_k».proof.Proof.Pool

/-!
# What one block of the kernel computes

A grid point holds 4096 rows, which are two graphs of 2048 nodes. `out_apply` says that row `g` of the block's
result is the pooled and projected row (`Pool.poolThenProject`) of the block's graph `g`.
-/

@[expose] public section

noncomputable section

namespace Cert.Proof.Block

open Cert.KernelIdeal Cert.KernelIdeal.Gen Idealize.ShloMosaic

/-! ## The graph of a row -/

/-- The printed floor division of a word by 2048. -/
def half (w : BitVec 32) : BitVec 32 :=
  Scalar.select
    (IntOp.andi
      (IntOp.cmpi CmpIPredicate.ne
        (IntOp.subi (BitVec.setWidth 32 (IntOp.cmpi CmpIPredicate.sgt w 0#32))
          (BitVec.setWidth 32 (IntOp.cmpi CmpIPredicate.slt w 0#32)))
        (Scalar.subi (Scalar.extui (Scalar.cmpi CmpIPredicate.sgt 2048#32 0#32))
          (Scalar.extui (Scalar.cmpi CmpIPredicate.slt 2048#32 0#32))))
      (IntOp.cmpi CmpIPredicate.ne (IntOp.remsi ArithUnit.vector w 2048#32) 0#32))
    (IntOp.subi (IntOp.divsi ArithUnit.vector w 2048#32) 1#32)
    (IntOp.divsi ArithUnit.vector w 2048#32)

set_option maxRecDepth 100000 in
/-- On the 4096 row numbers it is the quotient, that is, the number of the row's graph. -/
theorem half_eq : ∀ r : Fin 4096, half (BitVec.ofNat 32 r.val) = BitVec.ofNat 32 (r.val / 2048) := by
  decide +kernel

/-- Row `n` of the block's graph `g`. -/
def row (g : Fin 2) (n : Fin 2048) : Fin 4096 := ⟨2048 * g.val + n.val, by omega⟩

theorem half_row (g : Fin 2) (n : Fin 2048) : half (BitVec.ofNat 32 (row g n).val) = BitVec.ofNat 32 g.val := by
  rw [half_eq, row]
  congr 1
  show (2048 * g.val + n.val) / 2048 = g.val
  omega

/-- A sum over the 4096 rows is the sum over the first graph's rows and the sum over the second's. -/
theorem sum_rows (f : Fin 4096 → EReal) : ∑ r, f r = ∑ n, f (row 0 n) + ∑ n, f (row 1 n) := by
  have h := Fin.sum_univ_add (a := 2048) (b := 2048) f
  refine h.trans (congrArg₂ (· + ·) (Finset.sum_congr rfl fun n _ => congrArg f (Fin.ext ?_))
    (Finset.sum_congr rfl fun n _ => congrArg f (Fin.ext ?_)))
  · show n.val = 2048 * 0 + n.val
    omega
  · show 2048 + n.val = 2048 * 1 + n.val
    omega

/-- A fold of `max` over the pairs of one row and 2048 columns is the fold over the columns. -/
theorem fold_row (b : EReal) (f : Fin 2048 → EReal) :
    (Finset.univ : Finset (Fin 1 × Fin 2048)).fold max b (fun x => f x.2) = Finset.univ.fold max b f := by
  rw [← Finset.univ_map_equiv_to_embedding (Equiv.uniqueProd (Fin 2048) (Fin 1)).symm, Finset.fold_map]
  rfl

/-! ## The values the body names -/

/-- The gate of row `r`: the inner product of the gate's weights and the row. -/
def gate (x0 : Vec Ideal S4096x512 .f32) (x1 : Vec Ideal S1x512 .f32) (r : Fin 4096) : EReal :=
  ∑ k : Fin 512, x1 (ix2 0 k) * x0 (ix2 r k)

theorem pay4_apply (v0 : Vec Ideal S1x512 .f32) (v2 : Vec Ideal S4096x512 .f32) (r : Fin 4096) :
    k0_pay4 v0 v2 (ix2 0 r) = gate v2 v0 r := by
  unfold k0_pay4 gate
  pointwise

/-- The mask of the first graph. -/
theorem pay5_apply (g : Fin 2) (n : Fin 2048) : k0_pay5 (ix2 0 (row g n)) = BitVec.ofBool (decide (g = 0)) := by
  unfold k0_pay5
  pointwise
  refine (congrArg (IntOp.cmpi CmpIPredicate.eq · 0#32) (half_row g n)).trans ?_
  revert g
  decide

/-- The first graph's largest gate, at every column. -/
theorem pay6_apply (v0 : Vec Ideal S1x512 .f32) (v2 : Vec Ideal S4096x512 .f32) (r : Fin 4096) :
    k0_pay6 v0 v2 (ix2 0 r) = Finset.univ.fold max ⊥ (fun n => gate v2 v0 (row 0 n)) := by
  unfold k0_pay6
  pointwise
  rw [Pool.ofBits_neg_inf, ← fold_row]
  refine Finset.fold_congr fun x _ => (pay4_apply v0 v2 _).trans (congrArg (gate v2 v0) (Fin.ext ?_))
  show x.2.val = 2048 * 0 + x.2.val
  omega

/-- The second graph's largest gate, at every column. -/
theorem pay7_apply (v0 : Vec Ideal S1x512 .f32) (v2 : Vec Ideal S4096x512 .f32) (r : Fin 4096) :
    k0_pay7 v0 v2 (ix2 0 r) = Finset.univ.fold max ⊥ (fun n => gate v2 v0 (row 1 n)) := by
  unfold k0_pay7
  pointwise
  rw [Pool.ofBits_neg_inf, ← fold_row]
  exact Finset.fold_congr fun x _ => pay4_apply v0 v2 _

/-- The exponentials are the weights of the row's graph. -/
theorem pay8_apply (v0 : Vec Ideal S1x512 .f32) (v2 : Vec Ideal S4096x512 .f32) (g : Fin 2) (n : Fin 2048) :
    k0_pay8 (k0_pay4 v0 v2) k0_pay5 (k0_pay6 v0 v2) (k0_pay7 v0 v2) (ix2 0 (row g n))
      = Pool.weight (fun n => gate v2 v0 (row g n)) n := by
  unfold k0_pay8
  pointwise
  rw [pay4_apply, pay5_apply, pay6_apply, pay7_apply, Pool.weight]
  fin_cases g <;> rfl

/-- The sum of the first graph's weights. -/
theorem pay9_apply (v0 : Vec Ideal S1x512 .f32) (v2 : Vec Ideal S4096x512 .f32) :
    k0_pay9 (k0_pay4 v0 v2) k0_pay5 (k0_pay6 v0 v2) (k0_pay7 v0 v2)
      = Pool.total (fun n => gate v2 v0 (row 0 n)) := by
  unfold k0_pay9
  pointwise
  rw [Fin.sum_univ_one]
  refine Finset.sum_congr rfl fun n _ => Eq.trans ?_ (pay8_apply v0 v2 0 n)
  refine congrArg (fun r => k0_pay8 _ _ _ _ (ix2 0 r)) (Fin.ext ?_)
  show n.val = 2048 * 0 + n.val
  omega

/-- The sum of the second graph's weights. -/
theorem pay10_apply (v0 : Vec Ideal S1x512 .f32) (v2 : Vec Ideal S4096x512 .f32) :
    k0_pay10 (k0_pay4 v0 v2) k0_pay5 (k0_pay6 v0 v2) (k0_pay7 v0 v2)
      = Pool.total (fun n => gate v2 v0 (row 1 n)) := by
  unfold k0_pay10
  pointwise
  rw [Fin.sum_univ_one]
  exact Finset.sum_congr rfl fun n _ => pay8_apply v0 v2 1 n

/-- The pooled rows: the weights, laid out block-diagonally, times the block's rows. -/
theorem pay11_apply (v0 : Vec Ideal S1x512 .f32) (v2 : Vec Ideal S4096x512 .f32) (g : Fin 2) (k : Fin 512) :
    k0_pay11 (k0_pay4 v0 v2) (iota .tc S1x4096 32 [1] iota_S1x4096_d1_w32) k0_pay5 (k0_pay6 v0 v2)
        (k0_pay7 v0 v2) v2 (ix2 g k)
      = ∑ n, Pool.weight (fun n => gate v2 v0 (row g n)) n * v2 (ix2 (row g n) k) := by
  unfold k0_pay11
  pointwise
  refine (sum_rows _).trans ?_
  have key : ∀ h : Fin 2, ∀ n : Fin 2048,
      Scalar.select (IntOp.cmpi CmpIPredicate.eq (BitVec.ofNat 32 g.val) (half (BitVec.ofNat 32 (row h n).val)))
        (k0_pay8 (k0_pay4 v0 v2) k0_pay5 (k0_pay6 v0 v2) (k0_pay7 v0 v2) (ix2 0 (row h n)) * v2 (ix2 (row h n) k))
        (0 : EReal)
      = if g = h then Pool.weight (fun n => gate v2 v0 (row h n)) n * v2 (ix2 (row h n) k) else 0 := by
    intro h n
    rw [half_row, pay8_apply]
    fin_cases g <;> fin_cases h <;> rfl
  refine (congrArg₂ (· + ·) (Finset.sum_congr rfl fun n _ => key 0 n)
    (Finset.sum_congr rfl fun n _ => key 1 n)).trans ?_
  fin_cases g <;> simp

/-! ## The two stored rows -/

theorem pay2_apply (v51 : Ideal .f32) (v90 : FVec Ideal S2x512 .f32) (v91 : Vec Ideal S512x512 .f32)
    (v98 : Vec Ideal S1x512 .f32) (k : Fin 512) :
    k0_pay2 v51 v90 v91 v98 (ix3 0 0 k)
      = (∑ j, v90 (ix2 0 j) * v91 (ix2 j k)) * Ideal.div 1 (v51 + Pool.eps)
          + v98 (ix2 0 k) * (v51 * Ideal.div 1 (v51 + Pool.eps)) := by
  unfold k0_pay2 k0_pay1
  pointwise
  rfl

theorem pay3_apply (v56 : Ideal .f32) (v90 : FVec Ideal S2x512 .f32) (v91 : Vec Ideal S512x512 .f32)
    (v112 : Vec Ideal S1x512 .f32) (k : Fin 512) :
    k0_pay3 v56 v90 v91 v112 (ix3 0 0 k)
      = (∑ j, v90 (ix2 1 j) * v91 (ix2 j k)) * Ideal.div 1 (v56 + Pool.eps)
          + v112 (ix2 0 k) * (v56 * Ideal.div 1 (v56 + Pool.eps)) := by
  unfold k0_pay3 k0_pay1
  pointwise
  rfl

/-- Row `g` of the block's result. -/
theorem out_apply (x0 : Vec Ideal S4096x512 .f32) (x1 : Vec Ideal S1x512 .f32) (x2 : Vec Ideal S1x1 .f32)
    (x3 : Vec Ideal S512x512 .f32) (x4 : Vec Ideal S1x512 .f32) (g : Fin 2) (k : Fin 512) :
    out0_5 x0 x1 x2 x3 x4 (ix3 g 0 k)
      = Pool.poolThenProject (fun n => gate x0 x1 (row g n)) (fun n j => x0 (ix2 (row g n) j))
          (fun j => x3 (ix2 j k)) (x4 (ix2 0 k)) := by
  have h0 : View.ld x0 r0_1 = x0 := View.ld_unit_zero (by decide) _ _
  have h1 : View.ld x1 r0_0 = x1 := View.ld_unit_zero (by decide) _ _
  have h3 : View.ld x3 r0_2 = x3 := View.ld_unit_zero (by decide) _ _
  have h4 : View.ld x4 r0_0 = x4 := View.ld_unit_zero (by decide) _ _
  unfold_out out0_5
  rw [h0, h1, h3, h4]
  have hsum : ∀ h : Fin 2, ∑ j, k0_pay11 (k0_pay4 x1 x0) (iota .tc S1x4096 32 [1] iota_S1x4096_d1_w32) k0_pay5
        (k0_pay6 x1 x0) (k0_pay7 x1 x0) x0 (ix2 h j) * x3 (ix2 j k)
      = ∑ j, (∑ n, Pool.weight (fun n => gate x0 x1 (row h n)) n * x0 (ix2 (row h n) j)) * x3 (ix2 j k) :=
    fun h => Finset.sum_congr rfl fun j _ => congrArg (· * x3 (ix2 j k)) (pay11_apply x1 x0 h j)
  fin_cases g
  · have e : (ix3 (0 : Fin 2) 0 k : S2x1x512.Idx) = r0_3.emb (ix3 0 0 k) := by
      funext a
      refine Fin.ext ?_
      fin_cases a
      · rfl
      · rfl
      · exact (show k.val = 0 + 1 * k.val by omega)
    show View.canon _ (ix3 (0 : Fin 2) 0 k : S2x1x512.Idx) = _
    rw [View.canon_cons_of_not_mem, e, View.canon_cons_emb, pay2_apply, pay9_apply]
    · exact congrArg (· * _ + _) (hsum 0)
    · intro hm
      obtain ⟨x, hx⟩ := r0_4.exists_idx_of_mem hm
      have h := congrArg Fin.val (congrFun hx 0)
      have h' : 1 + 1 * (x 0).val = 0 := h
      omega
  · have e : (ix3 (1 : Fin 2) 0 k : S2x1x512.Idx) = r0_4.emb (ix3 0 0 k) := by
      funext a
      refine Fin.ext ?_
      fin_cases a
      · rfl
      · rfl
      · exact (show k.val = 0 + 1 * k.val by omega)
    show View.canon _ (ix3 (1 : Fin 2) 0 k : S2x1x512.Idx) = _
    rw [e, View.canon_cons_emb, pay3_apply, pay10_apply]
    exact congrArg (· * _ + _) (hsum 1)

end Cert.Proof.Block

end
-- ==== Proof.Array.lean ====
module

public import proofs.«01_k».proof.Proof.Block
public import Idealize.ShloMosaic.Lib.Pipeline.ValueKit

/-!
# What the kernel's result array holds

The eight blocks of the grid cover the kernel's 16 result rows, two rows to a block. `final_apply` says what
each row holds, in terms of the arguments of the program.
-/

@[expose] public section

noncomputable section

namespace Cert.Proof.Array

open Cert.KernelIdeal Cert.KernelIdeal.Gen
open Idealize.ShloMosaic Idealize.ShloMosaic.TcCoe Idealize.ShloMosaic.Tactic
open Idealize.SL Idealize.SL.Sem

/-- The value of one entry of the result: graph `b`, feature `j`. -/
def entry (x : Vec Ideal S16x2048x512 .f32) (wg : Vec Ideal S512x1 .f32) (wn : Vec Ideal S512x512 .f32)
    (bn : Vec Ideal S512 .f32) (b : Fin 16) (j : Fin 512) : EReal :=
  Pool.poolThenProject (fun n => ∑ k : Fin 512, wg (ix2 k 0) * x (ix3 b n k)) (fun n k => x (ix3 b n k))
    (fun k => wn (ix2 k j)) (bn (ix1 j))

variable (m : (ℓ : Loc nD τ sig) → Buf (Elt Ideal) ℓ) (c : Dev nD)

/-! ## The arrays the region finds -/

theorem V_rows : V m c main_v0 = shapeCast S32768x512 (m ((c : Thread nD τ).loc main_arg0)) shapeCasts_S16x2048x512_S32768x512 := by
  show StableHlo.after hostOps0 _ _ = _
  unfold hostOps0
  after_results
  rfl

theorem V_gate : V m c main_v1 = shapeCast S1x512 (m ((c : Thread nD τ).loc main_arg1)) shapeCasts_S512x1_S1x512 := by
  show StableHlo.after hostOps0 _ _ = _
  unfold hostOps0
  after_results
  rfl

theorem V_bias : V m c main_v3 = shapeCast S1x512 (m ((c : Thread nD τ).loc main_arg4)) shapeCasts_S512_S1x512 := by
  show StableHlo.after hostOps0 _ _ = _
  unfold hostOps0
  after_results
  rfl

/-! ## The index maps of the windows -/

theorem index0 : ∀ t : Fin cfg0.N, win0_0.index t = ![(grid0.coords t 0).val, 0] := (by decide +kernel : ∀ t : Fin grid0.N, _)
theorem index1 : ∀ t : Fin cfg0.N, win0_1.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![(grid0.coords t 0).val, 0, 0] := (by decide +kernel : ∀ t : Fin grid0.N, _)

/-- Row `g` of block `t` of the result is graph `2 t + g`. -/
def graph (t : Fin cfg0.N) (g : Fin 2) : Fin 16 := ⟨(grid0.coords t 0).val * 2 + g.val, by
  have h : (grid0.coords t 0).val < 8 := (grid0.coords t 0).isLt
  omega⟩

theorem blk_rows (t : Fin cfg0.N) (g : Fin 2) (n : Fin 2048) (k : Fin 512) :
    iblk m c 0 t (ix2 (Block.row g n) k) = m ((c : Thread nD τ).loc main_arg0) (ix3 (graph t g) n k) := by
  have h : (grid0.coords t 0).val < 8 := (grid0.coords t 0).isLt
  have e : (win0_0.blk t).view.emb (ix2 (Block.row g n) k)
      = (ix2 (⟨(grid0.coords t 0).val * 4096 + (2048 * g.val + n.val), by omega⟩ : Fin 32768) k : S32768x512.Idx) := by
    funext a
    refine Fin.ext ?_
    fin_cases a <;> blk_simp [index0] <;> rfl
  blk_simp [iblk]
  rw [e, V_rows]
  refine shapeCast_apply _ _ _ _ ?_
  show (S16x2048x512.rowMajor (ix3 (graph t g) n k)).val = _
  rw [Shape.rowMajor_val_three, Shape.rowMajor_val_two]
  show (((grid0.coords t 0).val * 2 + g.val) * 2048 + n.val) * 512 + k.val
    = ((grid0.coords t 0).val * 4096 + (2048 * g.val + n.val)) * 512 + k.val
  omega

theorem blk_gate (t : Fin cfg0.N) (k : Fin 512) :
    iblk m c 1 t (ix2 0 k) = m ((c : Thread nD τ).loc main_arg1) (ix2 k 0) := by
  have e : (win0_1.blk t).view.emb (ix2 0 k) = (ix2 0 k : S1x512.Idx) := by
    funext a
    refine Fin.ext ?_
    fin_cases a <;> blk_simp [index1] <;> simp
  blk_simp [iblk]
  rw [e, V_gate]
  refine shapeCast_apply _ _ _ _ ?_
  show (S512x1.rowMajor (ix2 k 0)).val = _
  rw [Shape.rowMajor_val_two, Shape.rowMajor_val_two]
  show k.val * 1 + 0 = 0 * 512 + k.val
  omega

theorem blk_matrix (t : Fin cfg0.N) (k j : Fin 512) :
    iblk m c 3 t (ix2 k j) = m ((c : Thread nD τ).loc main_arg3) (ix2 k j) := by
  have e : (win0_3.blk t).view.emb (ix2 k j) = (ix2 k j : S512x512.Idx) := by
    funext a
    refine Fin.ext ?_
    fin_cases a <;> blk_simp [index3] <;> simp
  blk_simp [iblk]
  rw [e, V_main_arg3]

theorem blk_bias (t : Fin cfg0.N) (j : Fin 512) :
    iblk m c 4 t (ix2 0 j) = m ((c : Thread nD τ).loc main_arg4) (ix1 j) := by
  have e : (win0_4.blk t).view.emb (ix2 0 j) = (ix2 0 j : S1x512.Idx) := by
    funext a
    refine Fin.ext ?_
    fin_cases a <;> blk_simp [index4] <;> simp
  blk_simp [iblk]
  rw [e, V_bias]
  refine shapeCast_apply _ _ _ _ ?_
  show (S512.rowMajor (ix1 j)).val = _
  rw [Shape.rowMajor_val_one, Shape.rowMajor_val_two]
  show j.val = 0 * 512 + j.val
  omega

/-- What the body leaves in the result's block at grid point `t`. -/
theorem block_apply (t : Fin cfg0.N) (g : Fin 2) (j : Fin 512) :
    out0_5 (iblk m c 0 t) (iblk m c 1 t) (iblk m c 2 t) (iblk m c 3 t) (iblk m c 4 t) (ix3 g 0 j)
      = entry (m ((c : Thread nD τ).loc main_arg0)) (m ((c : Thread nD τ).loc main_arg1))
          (m ((c : Thread nD τ).loc main_arg3)) (m ((c : Thread nD τ).loc main_arg4)) (graph t g) j := by
  rw [Block.out_apply, entry]
  unfold Block.gate
  congr 1
  · funext n
    exact Finset.sum_congr rfl fun k _ => congrArg₂ (· * ·) (blk_gate m c t k) (blk_rows m c t g n k)
  · funext n k
    exact blk_rows m c t g n k
  · funext k
    exact blk_matrix m c t k j
  · exact blk_bias m c t j

/-- The result array of the region. -/
theorem final (c : Dev nD) : (dats m 0 c).arrAt 5 cfg0.N = fun i : S16x1x512.Idx =>
    entry (m ((c : Thread nD τ).loc main_arg0)) (m ((c : Thread nD τ).loc main_arg1))
      (m ((c : Thread nD τ).loc main_arg3)) (m ((c : Thread nD τ).loc main_arg4)) (i 0) (i 2) := by
  refine (dats m 0 c).arrAt_eq_of_covers 5 _ (by decide +kernel) fun t hf y => ?_
  blk_simp
  rw [after0_5]
  have hy : y = (ix3 (y 0 : Fin 2) 0 (y 2 : Fin 512) : S2x1x512.Idx) := by
    funext a
    fin_cases a
    · rfl
    · exact Subsingleton.elim (α := Fin 1) _ _
    · rfl
  have e0 : (win0_5.blk t).view.emb y 0 = graph t (y 0 : Fin 2) := Fin.ext (by blk_simp [index5]; rfl)
  have e2 : (win0_5.blk t).view.emb y 2 = (y 2 : Fin 512) := Fin.ext (by blk_simp [index5])
  rw [e0, e2]
  refine Eq.trans ?_ (block_apply m c t (y 0 : Fin 2) (y 2 : Fin 512))
  exact congrArg _ hy

/-- The result of the program is the region's array with its unit axis dropped: entry `(b, j)` of it. -/
theorem result_apply (b : Fin 16) (j : Fin 512) :
    Pipeline.afterTail₀ cfgs (dats m) 0 (V0 m) [hostOps1] c main_v5 (ix2 b j)
      = entry (m ((c : Thread nD τ).loc main_arg0)) (m ((c : Thread nD τ).loc main_arg1))
          (m ((c : Thread nD τ).loc main_arg3)) (m ((c : Thread nD τ).loc main_arg4)) b j := by
  have h : Pipeline.afterTail₀ cfgs (dats m) 0 (V0 m) [hostOps1] c main_v5
      = shapeCast S16x512 ((dats m 0 c).arrAt 5 cfg0.N) shapeCasts_S16x1x512_S16x512 := by
    unfold Pipeline.afterTail₀
    show StableHlo.after hostOps1 _ _ = _
    unfold hostOps1
    after_results
    have hw := Pipeline.withArrays_arr (cfgs 0).spec launch0.win.arr_inj c (V0 m c)
      (fun w => (dats m 0 c).arrAt w (cfgs 0).N) 5
    exact congrArg (fun v : Vec Ideal S16x1x512 .f32 => shapeCast S16x512 v shapeCasts_S16x1x512_S16x512) hw
  rw [h, final]
  refine shapeCast_apply _ _ _ (ix3 b 0 j : S16x1x512.Idx) ?_
  rw [Shape.rowMajor_val_three, Shape.rowMajor_val_two]
  show (b.val * 1 + 0) * 512 + j.val = b.val * 512 + j.val
  omega

end Cert.Proof.Array

end
-- ==== Proof.Segment.lean ====
module

public import Idealize.ShloMosaic.Lib.Routing.Ops
public import Idealize.ShloMosaic.Lib.Routing.OpsPair
public import Idealize.ShloMosaic.PureOps.Ideal.Laws

/-!
# A sum over the nodes of each graph

The reference adds the rows of a graph up by a scatter: row `p` is added to row `p / 2048` of the result. This
file says where a row of updates lands, and that the scatter leaves in row `b` the sum of the 2048 rows of
graph `b`.
-/

@[expose] public section

noncomputable section

namespace Cert.Proof.Segment

open Idealize.ShloMosaic Idealize.ShloMosaic.ValueIdx Idealize.ShloMosaic.Routing

/-- Entry `(p, q)` of the updates of a row scatter lands at `(b, j)` exactly when row `p`'s index word, read
    signed, is `b` and `q` is `j`. -/
theorem lands_row {R C N w : Nat} (d : ScatterDims (shape2 R C) (shape2 N 1) (shape2 N C))
    (huw : d.updateWindowDims = [1]) (hiw : d.insertedWindowDims = [0])
    (hsd : d.scatterDimsToOperandDims = [0]) (hivd : d.indexVectorDim = 1) (idx : IVec (shape2 N 1) w)
    (p : Fin N) (q : Fin C) (b : Fin R) (j : Fin C) :
    d.resultIdx? (ix2 p q) idx = some (ix2 b j) ↔ (idx (ix2 p 0)).toInt = b.val ∧ q = j := by
  have hm : (0 : Fin 2) ∈ d.scatterDimsToOperandDims := by rw [hsd]; exact List.mem_singleton.2 rfl
  have hkept : d.sKept = [1] := by
    show (shape2 R C).kept d.insertedWindowDims = _
    rw [hiw]
    rfl
  have hu : d.uScatter = [0] := by
    show (shape2 N C).kept d.updateWindowDims = _
    rw [huw]
    rfl
  have first : ∀ (l : List (Fin 2)) (m : Fin 2) (n : ℕ) (h : n < l.length), l = [m] → l[n]'h = m := by
    intro l m n h hl
    subst hl
    exact List.mem_singleton.1 (List.getElem_mem h)
  have hwin0 : d.window (ix2 p q) 0 = 0 := by
    unfold ScatterDims.window
    rw [dif_neg fun h => by rw [hkept] at h; exact absurd (List.mem_singleton.1 h) (by decide : (0 : Fin 2) ≠ 1)]
  have hwin1 : d.window (ix2 p q) 1 = q.val := by
    unfold ScatterDims.window
    rw [dif_pos (by rw [hkept]; exact List.mem_singleton.2 rfl)]
    rw [first _ 1 _ _ huw]
  have hstart1 : d.start (ix2 p q) idx 1 = 0 := by
    unfold ScatterDims.start
    rw [dif_neg fun h => by rw [hsd] at h; exact absurd (List.mem_singleton.1 h) (by decide : (1 : Fin 2) ≠ 0)]
  have hstart0 : d.start (ix2 p q) idx 0 = (idx (ix2 p 0)).toInt := by
    unfold ScatterDims.start
    rw [dif_pos hm]
    have hsi : d.siIdx (ix2 p q) ⟨d.scatterDimsToOperandDims.idxOf 0, List.idxOf_lt_length_iff.2 hm⟩
        = ix2 p (0 : Fin 1) := by
      funext b'
      match b' with
      | ⟨0, _⟩ =>
        apply Fin.ext
        unfold ScatterDims.siIdx
        rw [dif_neg (by rw [hivd]; exact Nat.zero_ne_one)]
        unfold ScatterDims.siCoord
        simp only [Fin.val_cast]
        rw [first _ 0 _ _ hu]
      | ⟨1, _⟩ => exact Subsingleton.elim (α := Fin 1) _ _
    rw [hsi]
  rw [resultIdx?_ix2, hstart0, hwin0, hstart1, hwin1, Fin.ext_iff]
  omega

/-- Node `n` of graph `b`, among all 32768 nodes. -/
def node (b : Fin 16) (n : Fin 2048) : Fin 32768 := ⟨b.val * 2048 + n.val, by omega⟩

theorem node_div (b : Fin 16) (n : Fin 2048) : (node b n).val / 2048 = b.val := by
  show (b.val * 2048 + n.val) / 2048 = b.val
  omega

theorem node_mod (b : Fin 16) (n : Fin 2048) : (node b n).val % 2048 = n.val := by
  show (b.val * 2048 + n.val) % 2048 = n.val
  omega

/-- A scatter that adds each row to the row of its graph leaves, in row `b`, what was there and the sum of the
    graph's 2048 rows. -/
theorem scatterAdd_rows {C : Nat} (d : ScatterDims (shape2 16 C) (shape2 32768 1) (shape2 32768 C))
    (huw : d.updateWindowDims = [1]) (hiw : d.insertedWindowDims = [0])
    (hsd : d.scatterDimsToOperandDims = [0]) (hivd : d.indexVectorDim = 1)
    (x : FVec Ideal (shape2 16 C) .f32) (idx : IVec (shape2 32768 1) 32) (upd : FVec Ideal (shape2 32768 C) .f32)
    (hidx : ∀ p : Fin 32768, idx (ix2 p 0) = BitVec.ofNat 32 (p.val / 2048)) (b : Fin 16) (j : Fin C) :
    Host.scatterAdd d x idx upd (ix2 b j) = x (ix2 b j) + ∑ n : Fin 2048, upd (ix2 (node b n) j) := by
  have lands : ∀ (p : Fin 32768) (q : Fin C),
      d.resultIdx? (ix2 p q) idx = some (ix2 b j) ↔ p.val / 2048 = b.val ∧ q = j := fun p q => by
    rw [lands_row d huw hiw hsd hivd, hidx, StableHlo.Predicate.toInt_ofNat_small _ (by omega)]
    omega
  unfold Host.scatterAdd
  rw [Ideal.hostScatterAdd_def]
  unfold Ideal.hostScatterAdd
  refine congrArg (x (ix2 b j) + ·) ?_
  refine (Finset.sum_bij (fun n _ => ix2 (node b n) j) ?_ ?_ ?_ ?_).symm
  · intro n _
    exact Finset.mem_filter.2 ⟨Finset.mem_univ _, (lands _ _).2 ⟨node_div b n, rfl⟩⟩
  · intro n _ n' _ h
    have h' := congrArg Fin.val (congrFun h 0)
    have h'' : b.val * 2048 + n.val = b.val * 2048 + n'.val := h'
    exact Fin.ext (by omega)
  · intro u hu
    have hu' := (Finset.mem_filter.1 hu).2
    rw [eq_ix2 u] at hu'
    obtain ⟨h1, h2⟩ := (lands _ _).1 hu'
    refine ⟨⟨(u 0).val % 2048, Nat.mod_lt _ (by decide)⟩, Finset.mem_univ _, ?_⟩
    rw [eq_ix2 u]
    funext a
    match a with
    | ⟨0, _⟩ =>
      refine Fin.ext ?_
      show b.val * 2048 + (u 0).val % 2048 = (u 0).val
      omega
    | ⟨1, _⟩ => exact h2.symm
  · intro n _
    rfl

end Cert.Proof.Segment

end
-- ==== Proof.RefValue.lean ====
module

public import proofs.«01_k».proof.Proof.Gen.ReferenceIdeal.Read
public import proofs.«01_k».proof.Proof.Pool
public import proofs.«01_k».proof.Proof.Segment

/-!
# What the reference computes

`result_apply`: entry `(b, j)` of the reference's result is `Pool.projectThenPool` of graph `b`'s gates (with their
bias), graph `b`'s rows, column `j` of the projection and entry `j` of its bias.
-/

@[expose] public section

noncomputable section

namespace Cert.Proof.RefValue

open Cert.ReferenceIdeal Cert.ReferenceIdeal.Gen Cert.ReferenceIdeal.Read Cert.Proof.Segment
open Idealize.ShloMosaic hiding ix0 ix1 ix2 ix3 eq_ix2
open Idealize.ShloMosaic.ValueIdx

variable (x0 : (⟨S16x2048x512, .f32⟩ : BufTy).Contents (Elt Ideal)) (x1 : (⟨S512x1, .f32⟩ : BufTy).Contents (Elt Ideal))
  (x2 : (⟨S1, .f32⟩ : BufTy).Contents (Elt Ideal)) (x3 : (⟨S512x512, .f32⟩ : BufTy).Contents (Elt Ideal))
  (x4 : (⟨S512, .f32⟩ : BufTy).Contents (Elt Ideal))

/-- The gate of node `n` of graph `b`, its bias included. -/
def gate (b : Fin 16) (n : Fin 2048) : EReal :=
  (∑ k : Fin 512, x0 (ix3 b n k) * x1 (ix2 k 0)) + x2 (ix1 0)

/-- The flattened rows: row `node b n` is row `n` of graph `b`. -/
theorem rows_apply (b : Fin 16) (n : Fin 2048) (k : Fin 512) :
    val_main_v0 (F := Ideal) x0 (ix2 (node b n) k) = x0 (ix3 b n k) := by
  rw [val_main_v0_apply]
  refine congrArg x0 (funext fun a => Fin.ext ?_)
  match a with
  | ⟨0, _⟩ =>
    show ((b.val * 2048 + n.val) * 512 + k.val) / 1048576 = b.val
    omega
  | ⟨1, _⟩ =>
    show ((b.val * 2048 + n.val) * 512 + k.val) / 512 % 2048 = n.val
    omega
  | ⟨2, _⟩ =>
    show ((b.val * 2048 + n.val) * 512 + k.val) % 512 = k.val
    omega

/-- The gates, in the flat order of the nodes. -/
theorem gates_apply (b : Fin 16) (n : Fin 2048) :
    val_main_v7 (F := Ideal) x0 x1 x2 (ix2 (node b n) 0) = gate x0 x1 x2 b n := by
  rw [val_main_v7_apply, val_main_v4_apply, val_main_v6_apply, val_main_v5_apply]
  refine congrArg₂ (· + ·) (Finset.sum_congr rfl fun k _ => congrArg₂ (· * ·) ?_ (congrArg x1 ?_)) (congrArg x2 ?_)
  · refine (congrArg (val_main_v0 (F := Ideal) x0) ?_).trans (rows_apply x0 b n k)
    funext a
    match a with
    | ⟨0, _⟩ => rfl
    | ⟨1, _⟩ => rfl
  · funext a
    match a with
    | ⟨0, _⟩ => rfl
    | ⟨1, _⟩ => rfl
  · funext a
    match a with
    | ⟨0, _⟩ => rfl

/-- The projected rows, their bias included, in the flat order of the nodes. -/
theorem projected_apply (b : Fin 16) (n : Fin 2048) (j : Fin 512) :
    val_main_v11 (F := Ideal) x0 x3 x4 (ix2 (node b n) j)
      = (∑ k : Fin 512, x0 (ix3 b n k) * x3 (ix2 k j)) + x4 (ix1 j) := by
  rw [val_main_v11_apply, val_main_v8_apply, val_main_v10_apply, val_main_v9_apply]
  refine congrArg₂ (· + ·) (Finset.sum_congr rfl fun k _ => congrArg₂ (· * ·) ?_ (congrArg x3 ?_)) (congrArg x4 ?_)
  · refine (congrArg (val_main_v0 (F := Ideal) x0) ?_).trans (rows_apply x0 b n k)
    funext a
    match a with
    | ⟨0, _⟩ => rfl
    | ⟨1, _⟩ => rfl
  · funext a
    match a with
    | ⟨0, _⟩ => rfl
    | ⟨1, _⟩ => rfl
  · funext a
    match a with
    | ⟨0, _⟩ => rfl

/-- The number of a node's graph. -/
theorem batch_apply (i : S32768.Idx) : val_main_v3 (F := Ideal) i = BitVec.ofNat 32 ((i 0).val / 2048) := by
  rw [val_main_v3_apply, val_main_v2_apply, val_main_v1_apply]

theorem graph_small (i : S32768.Idx) : (i 0).val / 2048 < 16 := by
  have h : (i 0).val < 32768 := (i 0).isLt
  omega

/-- A graph's number is not negative, so the wrap of negative indices leaves it. -/
theorem wrapped (i : S32768.Idx) (a : BitVec 32) :
    Scalar.select (IntOp.cmpi .slt (BitVec.ofNat 32 ((i 0).val / 2048)) 0#32) a (BitVec.ofNat 32 ((i 0).val / 2048))
      = BitVec.ofNat 32 ((i 0).val / 2048) := by
  have h := graph_small i
  refine Routing.wrap_of_lt _ _ ?_
  rw [BitVec.toNat_ofNat]
  have h2 : (2 : ℕ) ^ (32 - 1) = 2147483648 := by norm_num
  have h3 : (2 : ℕ) ^ 32 = 4294967296 := by norm_num
  omega

theorem index19 (p : Fin 32768) : val_main_v19 (F := Ideal) (ix2 p 0) = BitVec.ofNat 32 (p.val / 2048) := by
  rw [val_main_v19_apply, val_main_v18_apply, val_main_v15_apply, val_main_v14_apply, val_main_c_apply, batch_apply]
  exact wrapped _ _

theorem index31 (p : Fin 32768) : val_main_v31 (F := Ideal) (ix2 p 0) = BitVec.ofNat 32 (p.val / 2048) := by
  rw [val_main_v31_apply, val_main_v30_apply, val_main_v27_apply, val_main_v26_apply, val_main_c_2_apply, batch_apply]
  exact wrapped _ _

theorem index24 (p : Fin 32768) : val_main_v24 (F := Ideal) (ix2 p 0) = BitVec.ofNat 32 (p.val / 2048) := by
  rw [val_main_v24_apply, batch_apply]

theorem index39 (p : Fin 32768) : val_main_v39 (F := Ideal) (ix2 p 0) = BitVec.ofNat 32 (p.val / 2048) := by
  rw [val_main_v39_apply, batch_apply]

/-- The largest gate of a graph. -/
theorem max_apply (b : Fin 16) :
    val_main_v13 (F := Ideal) x0 x1 x2 (ix2 b 0) = Finset.univ.fold max ⊥ (fun n => gate x0 x1 x2 b n) := by
  unfold val_main_v13 val_main_cst
  rw [← ix2_eq_valueIdx]
  pointwise
  rw [Pool.ofBits_neg_inf]
  refine Finset.fold_congr fun n _ => ?_
  rw [ix3_eq_valueIdx, val_main_v12_apply]
  refine (congrArg (val_main_v7 (F := Ideal) x0 x1 x2) (funext fun a => Fin.ext ?_)).trans (gates_apply x0 x1 x2 b n)
  match a with
  | ⟨0, _⟩ =>
    show ((b.val * 2048 + n.val) * 1 + 0) / 1 = b.val * 2048 + n.val
    omega
  | ⟨1, _⟩ => rfl

/-- The largest gate of a node's graph, at the node. -/
theorem max_at_node (b : Fin 16) (n : Fin 2048) :
    val_main_v20 (F := Ideal) x0 x1 x2 (ix2 (node b n) 0) = Finset.univ.fold max ⊥ (fun n => gate x0 x1 x2 b n) := by
  unfold val_main_v20
  rw [Routing.gather_row _ rfl rfl rfl rfl rfl _ _ _ _ b (by rw [index19, node_div]) (by norm_num), max_apply]

/-- A node's unnormalised weight. -/
theorem weight_apply (b : Fin 16) (n : Fin 2048) :
    val_main_v22 (F := Ideal) x0 x1 x2 (ix2 (node b n) 0) = Pool.weight (gate x0 x1 x2 b) n := by
  rw [val_main_v22_apply, val_main_v21_apply, gates_apply, max_at_node]
  rfl

/-- The sum of a graph's weights. -/
theorem total_apply (b : Fin 16) :
    val_main_v25 (F := Ideal) x0 x1 x2 (ix2 b 0) = Pool.total (gate x0 x1 x2 b) := by
  unfold val_main_v25
  rw [scatterAdd_rows _ rfl rfl rfl rfl _ _ _ index24, val_main_v23_apply, val_main_cst_1_apply]
  refine (congrArg₂ (· + ·) Ideal.ofBits_zero_f32 (Finset.sum_congr rfl fun n _ => weight_apply x0 x1 x2 b n)).trans ?_
  exact zero_add _

/-- The sum of the weights of a node's graph, at the node. -/
theorem total_at_node (b : Fin 16) (n : Fin 2048) :
    val_main_v32 (F := Ideal) x0 x1 x2 (ix2 (node b n) 0) = Pool.total (gate x0 x1 x2 b) := by
  unfold val_main_v32
  rw [Routing.gather_row _ rfl rfl rfl rfl rfl _ _ _ _ b (by rw [index31, node_div]) (by norm_num), total_apply]

/-- A node's normalised weight. -/
theorem alpha_apply (b : Fin 16) (n : Fin 2048) :
    val_main_v35 (F := Ideal) x0 x1 x2 (ix2 (node b n) 0)
      = Ideal.div (Pool.weight (gate x0 x1 x2 b) n) (Pool.total (gate x0 x1 x2 b) + Pool.eps) := by
  rw [val_main_v35_apply, val_main_v34_apply, weight_apply, total_at_node, val_main_v33_apply, val_main_cst_4_apply]
  rfl

/-- Entry `(b, j)` of the result. -/
theorem result_apply (b : Fin 16) (j : Fin 512) :
    val_main_v40 (F := Ideal) x0 x1 x2 x3 x4 (ix2 b j)
      = Pool.projectThenPool (gate x0 x1 x2 b) (fun n k => x0 (ix3 b n k)) (fun k => x3 (ix2 k j)) (x4 (ix1 j)) := by
  unfold val_main_v40
  refine (scatterAdd_rows scatter_S16x512_S32768x1_S32768x512_1_0_0_1 rfl rfl rfl rfl _ _ _ index39 b j).trans ?_
  rw [val_main_v38_apply, val_main_cst_5_apply]
  refine (congrArg₂ (· + ·) Ideal.ofBits_zero_f32 (Finset.sum_congr rfl fun n _ => ?_)).trans (zero_add _)
  have hi : idx_main_v36 (ix2 (node b n) j) = ix2 (node b n) (0 : Fin 1) := by
    funext a
    match a with
    | ⟨0, _⟩ => rfl
    | ⟨1, _⟩ => rfl
  rw [val_main_v37_apply, val_main_v36_apply, projected_apply, hi, alpha_apply]
  rfl

end Cert.Proof.RefValue

end
-- ==== Proof.Equation.lean ====
/-
  The equation: where x, the gate's bias and Wn are real, an entry of the kernel's array is the reference's entry.
-/
module

public import proofs.«01_k».proof.Proof.Array
public import proofs.«01_k».proof.Proof.RefValue

@[expose] public section

noncomputable section

namespace Cert.Proof.Equation

open Idealize.ShloMosaic

/-- The kernel's gate of a node, with the gate's bias added, is the reference's gate. -/
theorem gate_eq (x : FVec Ideal Cert.KernelIdeal.S16x2048x512 .f32) (wg : FVec Ideal Cert.KernelIdeal.S512x1 .f32)
    (bg : FVec Ideal Cert.KernelIdeal.S1 .f32) (b : Fin 16) (n : Fin 2048) :
    RefValue.gate x wg bg b n
      = (∑ k : Fin 512, wg (ix2 k 0) * x (ix3 b n k)) + bg (ValueIdx.ix1 0) := by
  unfold RefValue.gate
  refine congrArg (· + bg (ValueIdx.ix1 0)) (Finset.sum_congr rfl fun k _ => ?_)
  rw [ix2_eq_valueIdx, ix3_eq_valueIdx]
  exact mul_comm (G := EReal) _ _

/-- One entry of the kernel's array is the same entry of the reference's result. -/
theorem entry_eq (x : FVec Ideal Cert.KernelIdeal.S16x2048x512 .f32) (wg : FVec Ideal Cert.KernelIdeal.S512x1 .f32)
    (bg : FVec Ideal Cert.KernelIdeal.S1 .f32) (wn : FVec Ideal Cert.KernelIdeal.S512x512 .f32)
    (bn : FVec Ideal Cert.KernelIdeal.S512 .f32) (hx : ∀ i, ∃ r : ℝ, x i = (r : EReal))
    (hg : ∀ i, ∃ r : ℝ, bg i = (r : EReal)) (hw : ∀ i, ∃ r : ℝ, wn i = (r : EReal)) (b : Fin 16) (j : Fin 512) :
    Array.entry x wg wn bn b j
      = Cert.ReferenceIdeal.Read.val_main_v40 (F := Ideal) x wg bg wn bn (ValueIdx.ix2 b j) := by
  choose rx hx using hx
  choose rw hw using hw
  obtain ⟨c, hc⟩ := hg (ValueIdx.ix1 0)
  have hX : (fun (n : Fin 2048) (k : Fin 512) => x (ValueIdx.ix3 b n k))
      = fun n k => ((rx (ValueIdx.ix3 b n k) : ℝ) : EReal) := by
    funext n k
    exact hx _
  have hX' : (fun (n : Fin 2048) (k : Fin 512) => x (ix3 b n k))
      = fun n k => ((rx (ValueIdx.ix3 b n k) : ℝ) : EReal) := by
    funext n k
    rw [ix3_eq_valueIdx]
    exact hx _
  have hW : (fun k : Fin 512 => wn (ValueIdx.ix2 k j)) = fun k => ((rw (ValueIdx.ix2 k j) : ℝ) : EReal) := by
    funext k
    exact hw _
  have hW' : (fun k : Fin 512 => wn (ix2 k j)) = fun k => ((rw (ValueIdx.ix2 k j) : ℝ) : EReal) := by
    funext k
    rw [ix2_eq_valueIdx]
    exact hw _
  have hG : RefValue.gate x wg bg b
      = fun n => (∑ k : Fin 512, wg (ix2 k 0) * x (ix3 b n k)) + (c : EReal) := by
    funext n
    rw [gate_eq, hc]
  rw [RefValue.result_apply, hG, hX, hW]
  unfold Array.entry
  rw [hX', hW', ix1_eq_valueIdx]
  exact Pool.poolThenProject_eq _ c _ _ _

end Cert.Proof.Equation

end
-- ==== Proof.Runs.lean ====
/-
  The two runs, each with its result named: the kernel's ends with the array of Proof/Array.lean, the reference's with
  the array of Proof/RefValue.lean. Under the precondition the two arrays are equal.
-/
module

public import proofs.«01_k».proof.Proof.Equation
public import proofs.«01_k».proof.Proof.Finite
public import Idealize.ShloMosaic.Lib.Claim

@[expose] public section

noncomputable section

namespace Cert.Proof.Runs

open Idealize.ShloMosaic Idealize.ShloMosaic.TcCoe Idealize.SL Idealize.SL.Sem

section Kernel

open Cert.KernelIdeal Cert.KernelIdeal.Gen

variable (m : (ℓ : Loc nD τ sig) → Buf (Elt Ideal) ℓ) (ρ : Dev nD → PrngReg)

/-- The array the kernel's result buffer holds at the end. -/
def result (c : Dev nD) : Buf (Elt Ideal) ((c.tc : Thread nD τ).loc main_v5) :=
  Pipeline.afterTail₀ cfgs (dats m) 0 (V0 m) [hostOps1] c main_v5

/-- The kernel's run ends with `result` in the result buffer and the arguments unchanged. -/
theorem kernel : θ_run defs (onTc (τ := τ) main) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_mono (θ_run_and (run_main m ρ) (unchanged m ρ)) fun _ h c =>
    ⟨(h.1 c).2 main_v5 (Pipeline.mem_restRefs_of main_v5 (by decide) (by decide)), h.2 c⟩

end Kernel

/-- Where x, the gate's bias and Wn are real, the kernel's array is the reference's function of the same arguments. -/
theorem result_eq [Cert.Pre_finite.Facts]
    (m : (ℓ : Loc Cert.KernelIdeal.nD Cert.KernelIdeal.τ Cert.KernelIdeal.sig) → Buf (Elt Ideal) ℓ)
    (h : Cert.Pre_KernelIdeal_finite m) (c : Dev Cert.KernelIdeal.nD) :
    result m c = Cert.ReferenceIdeal.Read.val_main_v40 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) := by
  obtain ⟨hx, hg, hw⟩ := Finite.real_args _ _ _ _ _ (h c)
  funext i
  obtain ⟨b, j, rfl⟩ : ∃ (b : Fin 16) (j : Fin 512), i = ValueIdx.ix2 b j := ⟨_, _, ValueIdx.eq_ix2 i⟩
  refine Eq.trans ?_ (Equation.entry_eq _ _ _ _ _ hx hg hw b j)
  rw [← ix2_eq_valueIdx]
  exact Array.result_apply m c b j

end Cert.Proof.Runs

end
-- ==== Proof.lean ====
/-
  The assembly: the frames of the three programs, from the generated launch modules and the reference's run, and the
  equation of kernel and reference, from the two runs of Proof/Runs.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Finite
public import proofs.«01_k».proof.Proof.Runs
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference's run ends with its result, the arguments unchanged and every counter at zero. -/
theorem reference_frame [Cert.ReferenceIdeal.Facts] : Cert.quiescent_ReferenceIdeal :=
  fun m ρ _ => θ_run_mono (Cert.ReferenceIdeal.Value.run (F := Ideal) m ρ) fun r h =>
    ⟨fun c => (h c).2, sem_eq_zero_of_no_sems (by decide) r.2⟩

/-- Under the precondition kernel and reference end with equal results. -/
theorem algebraic [Cert.Pre_finite.Facts] : Cert.algebraic_KernelIdeal_ReferenceIdeal_pre_finite := by
  intro m g m' g' hpre hargs
  refine ⟨Runs.result m, Runs.kernel m g, ?_⟩
  refine θ_run_mono (Cert.ReferenceIdeal.Value.run (F := Ideal) m' g') fun r h c => ⟨(h c).1.trans ?_, (h c).2⟩
  obtain ⟨h0, h1, h2, h3, h4⟩ := hargs c
  rw [Cert.ReferenceIdeal.Read.val_main_v40_eq, h0, h1, h2, h3, h4]
  exact (Runs.result_eq m hpre c).symm

/-- The certificate's claims, all together. -/
theorem claim : Cert.Claim :=
  ⟨Cert.Kernel.Gen.facts, Cert.KernelIdeal.Gen.facts, Cert.ReferenceIdeal.Gen.facts, Cert.Proof.Finite.facts,
    fun m ρ _ => Cert.Kernel.Gen.frame m ρ, fun m ρ _ => Cert.KernelIdeal.Gen.frame m ρ,
    fun m ρ _ => Cert.KernelIdeal.Gen.frame m ρ, fun m ρ _ => reference_frame m ρ trivial,
    fun m ρ _ => reference_frame m ρ trivial, trivial,
    @algebraic Cert.Proof.Finite.facts⟩

end Cert.Proof

end
